-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S98304x128 : Shape := ⟨2, ![98304, 128]⟩
abbrev S98304x4 : Shape := ⟨2, ![98304, 4]⟩
abbrev S128x128 : Shape := ⟨2, ![128, 128]⟩
abbrev S_ : Shape := ⟨0, ![]⟩
abbrev S24576x128 : Shape := ⟨2, ![24576, 128]⟩

abbrev nBuf : Space → Nat
  | .hbm => 6
  | .vmem => 6
  | .smem => 0
  | _ => 0

abbrev bufTy : (tb : Table) → Fin (tcTables nBuf tb) → BufTy
  | .hbm, ⟨0, _⟩ => ⟨S98304x128, .f32⟩
  | .hbm, ⟨1, _⟩ => ⟨S98304x4, .i32⟩
  | .hbm, ⟨2, _⟩ => ⟨S128x128, .f32⟩
  | .hbm, ⟨3, _⟩ => ⟨S128x128, .f32⟩
  | .hbm, ⟨4, _⟩ => ⟨S_, .i32⟩
  | .hbm, ⟨5, _⟩ => ⟨S98304x128, .f32⟩
  | .local _ .vmem, ⟨0, _⟩ => ⟨S24576x128, .f32⟩
  | .local _ .vmem, ⟨1, _⟩ => ⟨S24576x128, .f32⟩
  | .local _ .vmem, ⟨2, _⟩ => ⟨S128x128, .f32⟩
  | .local _ .vmem, ⟨3, _⟩ => ⟨S128x128, .f32⟩
  | .local _ .vmem, ⟨4, _⟩ => ⟨S24576x128, .f32⟩
  | .local _ .vmem, ⟨5, _⟩ => ⟨S24576x128, .f32⟩
  | _, _ => ⟨S98304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S24576x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S24576x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S98304x128 : Shape := ⟨2, ![98304, 128]⟩
abbrev S98304x4 : Shape := ⟨2, ![98304, 4]⟩
abbrev S128x128 : Shape := ⟨2, ![128, 128]⟩
abbrev S_ : Shape := ⟨0, ![]⟩
abbrev S98304x1 : Shape := ⟨2, ![98304, 1]⟩
abbrev S98304 : Shape := ⟨1, ![98304]⟩
abbrev S1 : Shape := ⟨1, ![1]⟩
abbrev S1x1 : Shape := ⟨2, ![1, 1]⟩
abbrev S24x4096x128 : Shape := ⟨3, ![24, 4096, 128]⟩

abbrev nBuf : Space → Nat
  | .hbm => 271
  | .vmem => 0
  | .smem => 0
  | _ => 0

abbrev hbmTy0_0 (i : Nat) : BufTy := match i % 128 with
  | 0 => ⟨S98304x128, .f32⟩
  | 1 => ⟨S98304x4, .i32⟩
  | 2 => ⟨S128x128, .f32⟩
  | 3 => ⟨S128x128, .f32⟩
  | 4 => ⟨S_, .i32⟩
  | 5 => ⟨S98304x1, .i32⟩
  | 6 => ⟨S98304, .i32⟩
  | 7 => ⟨S98304x1, .i32⟩
  | 8 => ⟨S98304, .i32⟩
  | 9 => ⟨S98304x1, .i32⟩
  | 10 => ⟨S98304, .i32⟩
  | 11 => ⟨S_, .i32⟩
  | 12 => ⟨S_, .i32⟩
  | 13 => ⟨S98304, .i32⟩
  | 14 => ⟨S98304, .i32⟩
  | 15 => ⟨S98304, .i32⟩
  | 16 => ⟨S_, .i32⟩
  | 17 => ⟨S98304, .i32⟩
  | 18 => ⟨S98304, .i1⟩
  | 19 => ⟨S98304, .i32⟩
  | 20 => ⟨S98304, .i32⟩
  | 21 => ⟨S_, .i32⟩
  | 22 => ⟨S98304, .i32⟩
  | 23 => ⟨S98304, .i1⟩
  | 24 => ⟨S98304, .i1⟩
  | 25 => ⟨S_, .i32⟩
  | 26 => ⟨S98304, .i32⟩
  | 27 => ⟨S98304, .i32⟩
  | 28 => ⟨S98304, .i32⟩
  | 29 => ⟨S_, .i32⟩
  | 30 => ⟨S_, .i32⟩
  | 31 => ⟨S98304, .i32⟩
  | 32 => ⟨S98304, .i32⟩
  | 33 => ⟨S98304, .i32⟩
  | 34 => ⟨S_, .i32⟩
  | 35 => ⟨S98304, .i32⟩
  | 36 => ⟨S98304, .i1⟩
  | 37 => ⟨S98304, .i32⟩
  | 38 => ⟨S98304, .i32⟩
  | 39 => ⟨S_, .i32⟩
  | 40 => ⟨S98304, .i32⟩
  | 41 => ⟨S98304, .i1⟩
  | 42 => ⟨S98304, .i1⟩
  | 43 => ⟨S_, .i32⟩
  | 44 => ⟨S98304, .i32⟩
  | 45 => ⟨S98304, .i32⟩
  | 46 => ⟨S98304, .i32⟩
  | 47 => ⟨S_, .i32⟩
  | 48 => ⟨S_, .i32⟩
  | 49 => ⟨S98304, .i32⟩
  | 50 => ⟨S98304, .i32⟩
  | 51 => ⟨S98304, .i32⟩
  | 52 => ⟨S_, .i32⟩
  | 53 => ⟨S98304, .i32⟩
  | 54 => ⟨S98304, .i1⟩
  | 55 => ⟨S98304, .i32⟩
  | 56 => ⟨S98304, .i32⟩
  | 57 => ⟨S_, .i32⟩
  | 58 => ⟨S98304, .i32⟩
  | 59 => ⟨S98304, .i1⟩
  | 60 => ⟨S98304, .i1⟩
  | 61 => ⟨S_, .i32⟩
  | 62 => ⟨S98304, .i32⟩
  | 63 => ⟨S98304, .i32⟩
  | 64 => ⟨S98304, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S98304, .i32⟩
  | 72 => ⟨S98304, .i32⟩
  | 73 => ⟨S_, .i32⟩
  | 74 => ⟨S98304, .i32⟩
  | 75 => ⟨S98304, .i1⟩
  | 76 => ⟨S_, .i32⟩
  | 77 => ⟨S98304, .i32⟩
  | 78 => ⟨S98304, .i1⟩
  | 79 => ⟨S_, .i32⟩
  | 80 => ⟨S_, .i1⟩
  | 81 => ⟨S98304, .i1⟩
  | 82 => ⟨S98304, .i1⟩
  | 83 => ⟨S98304, .i1⟩
  | 84 => ⟨S98304, .i32⟩
  | 85 => ⟨S98304, .i32⟩
  | 86 => ⟨S98304, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S98304, .i32⟩
  | 94 => ⟨S98304, .i32⟩
  | 95 => ⟨S_, .i32⟩
  | 96 => ⟨S98304, .i32⟩
  | 97 => ⟨S98304, .i1⟩
  | 98 => ⟨S_, .i32⟩
  | 99 => ⟨S98304, .i32⟩
  | 100 => ⟨S98304, .i1⟩
  | 101 => ⟨S_, .i32⟩
  | 102 => ⟨S_, .i1⟩
  | 103 => ⟨S98304, .i1⟩
  | 104 => ⟨S98304, .i1⟩
  | 105 => ⟨S98304, .i1⟩
  | 106 => ⟨S98304, .i32⟩
  | 107 => ⟨S98304, .i32⟩
  | 108 => ⟨S98304, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S98304, .i32⟩
  | 116 => ⟨S98304, .i32⟩
  | 117 => ⟨S_, .i32⟩
  | 118 => ⟨S98304, .i32⟩
  | 119 => ⟨S98304, .i1⟩
  | 120 => ⟨S_, .i32⟩
  | 121 => ⟨S98304, .i32⟩
  | 122 => ⟨S98304, .i1⟩
  | 123 => ⟨S_, .i32⟩
  | 124 => ⟨S_, .i1⟩
  | 125 => ⟨S98304, .i1⟩
  | 126 => ⟨S98304, .i1⟩
  | 127 => ⟨S98304, .i1⟩
  | _ => ⟨S98304x128, .f32⟩

abbrev hbmTy0_1 (i : Nat) : BufTy := match i % 128 with
  | 0 => ⟨S98304, .i32⟩
  | 1 => ⟨S98304, .i32⟩
  | 2 => ⟨S98304, .i32⟩
  | 3 => ⟨S98304x1, .i32⟩
  | 4 => ⟨S98304, .i32⟩
  | 5 => ⟨S_, .i32⟩
  | 6 => ⟨S98304, .i32⟩
  | 7 => ⟨S98304, .i32⟩
  | 8 => ⟨S_, .i32⟩
  | 9 => ⟨S98304, .i32⟩
  | 10 => ⟨S98304, .i32⟩
  | 11 => ⟨S_, .i32⟩
  | 12 => ⟨S98304, .i32⟩
  | 13 => ⟨S98304, .i32⟩
  | 14 => ⟨S98304, .i32⟩
  | 15 => ⟨S_, .i32⟩
  | 16 => ⟨S98304, .i32⟩
  | 17 => ⟨S98304, .i32⟩
  | 18 => ⟨S98304, .i32⟩
  | 19 => ⟨S98304, .i32⟩
  | 20 => ⟨S98304x1, .i32⟩
  | 21 => ⟨S98304, .i32⟩
  | 22 => ⟨S_, .i32⟩
  | 23 => ⟨S98304, .i32⟩
  | 24 => ⟨S98304, .i32⟩
  | 25 => ⟨S_, .i32⟩
  | 26 => ⟨S98304, .i32⟩
  | 27 => ⟨S98304, .i32⟩
  | 28 => ⟨S_, .i32⟩
  | 29 => ⟨S98304, .i32⟩
  | 30 => ⟨S98304, .i32⟩
  | 31 => ⟨S98304, .i32⟩
  | 32 => ⟨S_, .i32⟩
  | 33 => ⟨S98304, .i32⟩
  | 34 => ⟨S98304, .i32⟩
  | 35 => ⟨S98304, .i32⟩
  | 36 => ⟨S98304, .i32⟩
  | 37 => ⟨S_, .i32⟩
  | 38 => ⟨S98304, .i32⟩
  | 39 => ⟨S98304, .i32⟩
  | 40 => ⟨S_, .i32⟩
  | 41 => ⟨S98304, .i32⟩
  | 42 => ⟨S98304, .i32⟩
  | 43 => ⟨S_, .i32⟩
  | 44 => ⟨S98304, .i32⟩
  | 45 => ⟨S98304, .i32⟩
  | 46 => ⟨S98304, .i32⟩
  | 47 => ⟨S_, .i32⟩
  | 48 => ⟨S98304, .i32⟩
  | 49 => ⟨S98304, .i32⟩
  | 50 => ⟨S98304, .i32⟩
  | 51 => ⟨S98304, .i32⟩
  | 52 => ⟨S_, .i32⟩
  | 53 => ⟨S98304, .i32⟩
  | 54 => ⟨S98304, .i32⟩
  | 55 => ⟨S_, .i32⟩
  | 56 => ⟨S98304, .i32⟩
  | 57 => ⟨S98304, .i32⟩
  | 58 => ⟨S_, .i32⟩
  | 59 => ⟨S98304, .i32⟩
  | 60 => ⟨S98304, .i32⟩
  | 61 => ⟨S98304, .i32⟩
  | 62 => ⟨S_, .i32⟩
  | 63 => ⟨S98304, .i32⟩
  | 64 => ⟨S98304, .i32⟩
  | 65 => ⟨S98304, .i32⟩
  | 66 => ⟨S98304, .i32⟩
  | 67 => ⟨S98304, .i32⟩
  | 68 => ⟨S98304, .i32⟩
  | 69 => ⟨S98304, .i32⟩
  | 70 => ⟨S98304, .i32⟩
  | 71 => ⟨S98304, .i32⟩
  | 72 => ⟨S98304, .i32⟩
  | 73 => ⟨S_, .i32⟩
  | 74 => ⟨S98304, .i32⟩
  | 75 => ⟨S98304, .i1⟩
  | 76 => ⟨S_, .i32⟩
  | 77 => ⟨S98304, .i32⟩
  | 78 => ⟨S98304, .i32⟩
  | 79 => ⟨S98304, .i32⟩
  | 80 => ⟨S98304x1, .i32⟩
  | 81 => ⟨S1, .i32⟩
  | 82 => ⟨S_, .i32⟩
  | 83 => ⟨S98304x1, .i32⟩
  | 84 => ⟨S98304x1, .i1⟩
  | 85 => ⟨S1x1, .i32⟩
  | 86 => ⟨S98304x1, .i32⟩
  | 87 => ⟨S98304x1, .i1⟩
  | 88 => ⟨S98304x1, .i1⟩
  | 89 => ⟨S_, .i1⟩
  | 90 => ⟨S98304, .i1⟩
  | 91 => ⟨S98304x128, .f32⟩
  | 92 => ⟨S98304x128, .i1⟩
  | 93 => ⟨S_, .f32⟩
  | 94 => ⟨S98304x128, .f32⟩
  | 95 => ⟨S98304x128, .f32⟩
  | 96 => ⟨S24x4096x128, .f32⟩
  | 97 => ⟨S24x4096x128, .f32⟩
  | 98 => ⟨S98304x128, .f32⟩
  | 99 => ⟨S_, .i32⟩
  | 100 => ⟨S98304, .i32⟩
  | 101 => ⟨S98304, .i1⟩
  | 102 => ⟨S_, .i32⟩
  | 103 => ⟨S98304, .i32⟩
  | 104 => ⟨S98304, .i32⟩
  | 105 => ⟨S98304, .i32⟩
  | 106 => ⟨S98304x1, .i32⟩
  | 107 => ⟨S98304x128, .f32⟩
  | 108 => ⟨S_, .i32⟩
  | 109 => ⟨S98304, .i32⟩
  | 110 => ⟨S98304, .i1⟩
  | 111 => ⟨S_, .i32⟩
  | 112 => ⟨S98304, .i32⟩
  | 113 => ⟨S98304, .i32⟩
  | 114 => ⟨S98304, .i32⟩
  | 115 => ⟨S98304x1, .i32⟩
  | 116 => ⟨S1, .i32⟩
  | 117 => ⟨S_, .i32⟩
  | 118 => ⟨S98304x1, .i32⟩
  | 119 => ⟨S98304x1, .i1⟩
  | 120 => ⟨S1x1, .i32⟩
  | 121 => ⟨S98304x1, .i32⟩
  | 122 => ⟨S98304x1, .i1⟩
  | 123 => ⟨S98304x1, .i1⟩
  | 124 => ⟨S_, .i1⟩
  | 125 => ⟨S98304, .i1⟩
  | 126 => ⟨S98304x128, .f32⟩
  | 127 => ⟨S98304x128, .i1⟩
  | _ => ⟨S98304x128, .f32⟩

abbrev hbmTy0_2 (i : Nat) : BufTy := match i % 128 with
  | 0 => ⟨S_, .f32⟩
  | 1 => ⟨S98304x128, .f32⟩
  | 2 => ⟨S98304x128, .f32⟩
  | 3 => ⟨S24x4096x128, .f32⟩
  | 4 => ⟨S24x4096x128, .f32⟩
  | 5 => ⟨S98304x128, .f32⟩
  | 6 => ⟨S_, .i32⟩
  | 7 => ⟨S98304, .i32⟩
  | 8 => ⟨S98304, .i1⟩
  | 9 => ⟨S_, .i32⟩
  | 10 => ⟨S98304, .i32⟩
  | 11 => ⟨S98304, .i32⟩
  | 12 => ⟨S98304, .i32⟩
  | 13 => ⟨S98304x1, .i32⟩
  | 14 => ⟨S98304x128, .f32⟩
  | _ => ⟨S98304x128, .f32⟩

abbrev hbmTy (i : Nat) : BufTy := match i / 128 with
  | 0 => hbmTy0_0 i
  | 1 => hbmTy0_1 i
  | 2 => hbmTy0_2 i
  | _ => ⟨S98304x128, .f32⟩

abbrev bufTy : (tb : Table) → Fin (tcTables nBuf tb) → BufTy
  | .hbm, ⟨i, _⟩ => hbmTy i
  | _, _ => ⟨S98304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_c_1 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_c : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_0 : Ref sig .tc := ⟨.hbm, 61, rfl⟩
abbrev main_call2_v12 : Ref sig .tc := ⟨.hbm, 62, rfl⟩
abbrev main_call2_v13 : Ref sig .tc := ⟨.hbm, 63, rfl⟩
abbrev main_v8 : Ref sig .tc := ⟨.hbm, 64, rfl⟩
abbrev main_c_2 : Ref sig .tc := ⟨.hbm, 65, rfl⟩
abbrev main_call3_v0 : Ref sig .tc := ⟨.hbm, 66, rfl⟩
abbrev main_call3_c : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_c_1 : Ref sig .tc := ⟨.hbm, 73, rfl⟩
abbrev main_call3_v5 : Ref sig .tc := ⟨.hbm, 74, rfl⟩
abbrev main_call3_v6 : Ref sig .tc := ⟨.hbm, 75, rfl⟩
abbrev main_call3_c_2 : Ref sig .tc := ⟨.hbm, 76, rfl⟩
abbrev main_call3_v7 : Ref sig .tc := ⟨.hbm, 77, rfl⟩
abbrev main_call3_v8 : Ref sig .tc := ⟨.hbm, 78, rfl⟩
abbrev main_call3_c_3 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_v12 : Ref sig .tc := ⟨.hbm, 83, rfl⟩
abbrev main_call3_v13 : Ref sig .tc := ⟨.hbm, 84, rfl⟩
abbrev main_call3_v14 : Ref sig .tc := ⟨.hbm, 85, rfl⟩
abbrev main_v9 : Ref sig .tc := ⟨.hbm, 86, rfl⟩
abbrev main_c_3 : Ref sig .tc := ⟨.hbm, 87, rfl⟩
abbrev main_call4_v0 : Ref sig .tc := ⟨.hbm, 88, rfl⟩
abbrev main_call4_c : Ref sig .tc := ⟨.hbm, 89, rfl⟩
abbrev main_call4_v1 : Ref sig .tc := ⟨.hbm, 90, rfl⟩
abbrev main_call4_c_0 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_c_1 : Ref sig .tc := ⟨.hbm, 95, rfl⟩
abbrev main_call4_v5 : Ref sig .tc := ⟨.hbm, 96, rfl⟩
abbrev main_call4_v6 : Ref sig .tc := ⟨.hbm, 97, rfl⟩
abbrev main_call4_c_2 : Ref sig .tc := ⟨.hbm, 98, rfl⟩
abbrev main_call4_v7 : Ref sig .tc := ⟨.hbm, 99, rfl⟩
abbrev main_call4_v8 : Ref sig .tc := ⟨.hbm, 100, rfl⟩
abbrev main_call4_c_3 : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_v12 : Ref sig .tc := ⟨.hbm, 105, rfl⟩
abbrev main_call4_v13 : Ref sig .tc := ⟨.hbm, 106, rfl⟩
abbrev main_call4_v14 : Ref sig .tc := ⟨.hbm, 107, rfl⟩
abbrev main_v10 : Ref sig .tc := ⟨.hbm, 108, rfl⟩
abbrev main_c_4 : Ref sig .tc := ⟨.hbm, 109, rfl⟩
abbrev main_call5_v0 : Ref sig .tc := ⟨.hbm, 110, rfl⟩
abbrev main_call5_c : Ref sig .tc := ⟨.hbm, 111, rfl⟩
abbrev main_call5_v1 : Ref sig .tc := ⟨.hbm, 112, rfl⟩
abbrev main_call5_c_0 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_call5_c_1 : Ref sig .tc := ⟨.hbm, 117, rfl⟩
abbrev main_call5_v5 : Ref sig .tc := ⟨.hbm, 118, rfl⟩
abbrev main_call5_v6 : Ref sig .tc := ⟨.hbm, 119, rfl⟩
abbrev main_call5_c_2 : Ref sig .tc := ⟨.hbm, 120, rfl⟩
abbrev main_call5_v7 : Ref sig .tc := ⟨.hbm, 121, rfl⟩
abbrev main_call5_v8 : Ref sig .tc := ⟨.hbm, 122, rfl⟩
abbrev main_call5_c_3 : Ref sig .tc := ⟨.hbm, 123, rfl⟩
abbrev main_call5_v9 : Ref sig .tc := ⟨.hbm, 124, rfl⟩
abbrev main_call5_v10 : Ref sig .tc := ⟨.hbm, 125, rfl⟩
abbrev main_call5_v11 : Ref sig .tc := ⟨.hbm, 126, rfl⟩
abbrev main_call5_v12 : Ref sig .tc := ⟨.hbm, 127, rfl⟩
abbrev main_call5_v13 : Ref sig .tc := ⟨.hbm, 128, rfl⟩
abbrev main_call5_v14 : Ref sig .tc := ⟨.hbm, 129, rfl⟩
abbrev main_v11 : Ref sig .tc := ⟨.hbm, 130, rfl⟩
abbrev main_v12 : Ref sig .tc := ⟨.hbm, 131, rfl⟩
abbrev main_v13 : Ref sig .tc := ⟨.hbm, 132, rfl⟩
abbrev main_c_5 : Ref sig .tc := ⟨.hbm, 133, rfl⟩
abbrev main_v14 : Ref sig .tc := ⟨.hbm, 134, rfl⟩
abbrev main_v15 : Ref sig .tc := ⟨.hbm, 135, rfl⟩
abbrev main_c_6 : Ref sig .tc := ⟨.hbm, 136, rfl⟩
abbrev main_v16 : Ref sig .tc := ⟨.hbm, 137, rfl⟩
abbrev main_v17 : Ref sig .tc := ⟨.hbm, 138, rfl⟩
abbrev main_c_7 : Ref sig .tc := ⟨.hbm, 139, rfl⟩
abbrev main_v18 : Ref sig .tc := ⟨.hbm, 140, rfl⟩
abbrev main_v19 : Ref sig .tc := ⟨.hbm, 141, rfl⟩
abbrev main_v20 : Ref sig .tc := ⟨.hbm, 142, rfl⟩
abbrev main_c_8 : Ref sig .tc := ⟨.hbm, 143, rfl⟩
abbrev main_v21 : Ref sig .tc := ⟨.hbm, 144, rfl⟩
abbrev main_v22 : Ref sig .tc := ⟨.hbm, 145, rfl⟩
abbrev main_v23 : Ref sig .tc := ⟨.hbm, 146, rfl⟩
abbrev main_v24 : Ref sig .tc := ⟨.hbm, 147, rfl⟩
abbrev main_v25 : Ref sig .tc := ⟨.hbm, 148, rfl⟩
abbrev main_v26 : Ref sig .tc := ⟨.hbm, 149, rfl⟩
abbrev main_c_9 : Ref sig .tc := ⟨.hbm, 150, rfl⟩
abbrev main_v27 : Ref sig .tc := ⟨.hbm, 151, rfl⟩
abbrev main_v28 : Ref sig .tc := ⟨.hbm, 152, rfl⟩
abbrev main_c_10 : Ref sig .tc := ⟨.hbm, 153, rfl⟩
abbrev main_v29 : Ref sig .tc := ⟨.hbm, 154, rfl⟩
abbrev main_v30 : Ref sig .tc := ⟨.hbm, 155, rfl⟩
abbrev main_c_11 : Ref sig .tc := ⟨.hbm, 156, rfl⟩
abbrev main_v31 : Ref sig .tc := ⟨.hbm, 157, rfl⟩
abbrev main_v32 : Ref sig .tc := ⟨.hbm, 158, rfl⟩
abbrev main_v33 : Ref sig .tc := ⟨.hbm, 159, rfl⟩
abbrev main_c_12 : Ref sig .tc := ⟨.hbm, 160, rfl⟩
abbrev main_v34 : Ref sig .tc := ⟨.hbm, 161, rfl⟩
abbrev main_v35 : Ref sig .tc := ⟨.hbm, 162, rfl⟩
abbrev main_v36 : Ref sig .tc := ⟨.hbm, 163, rfl⟩
abbrev main_v37 : Ref sig .tc := ⟨.hbm, 164, rfl⟩
abbrev main_c_13 : Ref sig .tc := ⟨.hbm, 165, rfl⟩
abbrev main_v38 : Ref sig .tc := ⟨.hbm, 166, rfl⟩
abbrev main_v39 : Ref sig .tc := ⟨.hbm, 167, rfl⟩
abbrev main_c_14 : Ref sig .tc := ⟨.hbm, 168, rfl⟩
abbrev main_v40 : Ref sig .tc := ⟨.hbm, 169, rfl⟩
abbrev main_v41 : Ref sig .tc := ⟨.hbm, 170, rfl⟩
abbrev main_c_15 : Ref sig .tc := ⟨.hbm, 171, rfl⟩
abbrev main_v42 : Ref sig .tc := ⟨.hbm, 172, rfl⟩
abbrev main_v43 : Ref sig .tc := ⟨.hbm, 173, rfl⟩
abbrev main_v44 : Ref sig .tc := ⟨.hbm, 174, rfl⟩
abbrev main_c_16 : Ref sig .tc := ⟨.hbm, 175, rfl⟩
abbrev main_v45 : Ref sig .tc := ⟨.hbm, 176, rfl⟩
abbrev main_v46 : Ref sig .tc := ⟨.hbm, 177, rfl⟩
abbrev main_v47 : Ref sig .tc := ⟨.hbm, 178, rfl⟩
abbrev main_v48 : Ref sig .tc := ⟨.hbm, 179, rfl⟩
abbrev main_c_17 : Ref sig .tc := ⟨.hbm, 180, rfl⟩
abbrev main_v49 : Ref sig .tc := ⟨.hbm, 181, rfl⟩
abbrev main_v50 : Ref sig .tc := ⟨.hbm, 182, rfl⟩
abbrev main_c_18 : Ref sig .tc := ⟨.hbm, 183, rfl⟩
abbrev main_v51 : Ref sig .tc := ⟨.hbm, 184, rfl⟩
abbrev main_v52 : Ref sig .tc := ⟨.hbm, 185, rfl⟩
abbrev main_c_19 : Ref sig .tc := ⟨.hbm, 186, rfl⟩
abbrev main_v53 : Ref sig .tc := ⟨.hbm, 187, rfl⟩
abbrev main_v54 : Ref sig .tc := ⟨.hbm, 188, rfl⟩
abbrev main_v55 : Ref sig .tc := ⟨.hbm, 189, rfl⟩
abbrev main_c_20 : Ref sig .tc := ⟨.hbm, 190, rfl⟩
abbrev main_v56 : Ref sig .tc := ⟨.hbm, 191, rfl⟩
abbrev main_v57 : Ref sig .tc := ⟨.hbm, 192, rfl⟩
abbrev main_v58 : Ref sig .tc := ⟨.hbm, 193, rfl⟩
abbrev main_v59 : Ref sig .tc := ⟨.hbm, 194, rfl⟩
abbrev main_call6_v0 : Ref sig .tc := ⟨.hbm, 195, rfl⟩
abbrev main_call6_v1_0 : Ref sig .tc := ⟨.hbm, 196, rfl⟩
abbrev main_v60 : Ref sig .tc := ⟨.hbm, 197, rfl⟩
abbrev main_call7_v0 : Ref sig .tc := ⟨.hbm, 198, rfl⟩
abbrev main_call7_v1_0 : Ref sig .tc := ⟨.hbm, 199, rfl⟩
abbrev main_v61 : Ref sig .tc := ⟨.hbm, 200, rfl⟩
abbrev main_call8_c : Ref sig .tc := ⟨.hbm, 201, rfl⟩
abbrev main_call8_v0 : Ref sig .tc := ⟨.hbm, 202, rfl⟩
abbrev main_call8_v1 : Ref sig .tc := ⟨.hbm, 203, rfl⟩
abbrev main_call8_c_0 : Ref sig .tc := ⟨.hbm, 204, rfl⟩
abbrev main_call8_v2 : Ref sig .tc := ⟨.hbm, 205, rfl⟩
abbrev main_call8_v3 : Ref sig .tc := ⟨.hbm, 206, rfl⟩
abbrev main_call8_v4 : Ref sig .tc := ⟨.hbm, 207, rfl⟩
abbrev main_call8_v5 : Ref sig .tc := ⟨.hbm, 208, rfl⟩
abbrev main_call8_c_1 : Ref sig .tc := ⟨.hbm, 209, rfl⟩
abbrev main_call8_c_2 : Ref sig .tc := ⟨.hbm, 210, rfl⟩
abbrev main_call8_v6 : Ref sig .tc := ⟨.hbm, 211, rfl⟩
abbrev main_call8_v7 : Ref sig .tc := ⟨.hbm, 212, rfl⟩
abbrev main_call8_v8 : Ref sig .tc := ⟨.hbm, 213, rfl⟩
abbrev main_call8_v9 : Ref sig .tc := ⟨.hbm, 214, rfl⟩
abbrev main_call8_v10 : Ref sig .tc := ⟨.hbm, 215, rfl⟩
abbrev main_call8_v11 : Ref sig .tc := ⟨.hbm, 216, rfl⟩
abbrev main_call8_c_3 : Ref sig .tc := ⟨.hbm, 217, rfl⟩
abbrev main_call8_v12 : Ref sig .tc := ⟨.hbm, 218, rfl⟩
abbrev main_call8_v13 : Ref sig .tc := ⟨.hbm, 219, rfl⟩
abbrev main_call8_v14 : Ref sig .tc := ⟨.hbm, 220, rfl⟩
abbrev main_call8_cst : Ref sig .tc := ⟨.hbm, 221, rfl⟩
abbrev main_call8_v15 : Ref sig .tc := ⟨.hbm, 222, rfl⟩
abbrev main_v62 : Ref sig .tc := ⟨.hbm, 223, rfl⟩
abbrev main_v63 : Ref sig .tc := ⟨.hbm, 224, rfl⟩
abbrev main_v64 : Ref sig .tc := ⟨.hbm, 225, rfl⟩
abbrev main_v65 : Ref sig .tc := ⟨.hbm, 226, rfl⟩
abbrev main_c_21 : Ref sig .tc := ⟨.hbm, 227, rfl⟩
abbrev main_v66 : Ref sig .tc := ⟨.hbm, 228, rfl⟩
abbrev main_v67 : Ref sig .tc := ⟨.hbm, 229, rfl⟩
abbrev main_c_22 : Ref sig .tc := ⟨.hbm, 230, rfl⟩
abbrev main_v68 : Ref sig .tc := ⟨.hbm, 231, rfl⟩
abbrev main_v69 : Ref sig .tc := ⟨.hbm, 232, rfl⟩
abbrev main_v70 : Ref sig .tc := ⟨.hbm, 233, rfl⟩
abbrev main_v71 : Ref sig .tc := ⟨.hbm, 234, rfl⟩
abbrev main_v72 : Ref sig .tc := ⟨.hbm, 235, rfl⟩
abbrev main_call9_c : Ref sig .tc := ⟨.hbm, 236, rfl⟩
abbrev main_call9_v0 : Ref sig .tc := ⟨.hbm, 237, rfl⟩
abbrev main_call9_v1 : Ref sig .tc := ⟨.hbm, 238, rfl⟩
abbrev main_call9_c_0 : Ref sig .tc := ⟨.hbm, 239, rfl⟩
abbrev main_call9_v2 : Ref sig .tc := ⟨.hbm, 240, rfl⟩
abbrev main_call9_v3 : Ref sig .tc := ⟨.hbm, 241, rfl⟩
abbrev main_call9_v4 : Ref sig .tc := ⟨.hbm, 242, rfl⟩
abbrev main_call9_v5 : Ref sig .tc := ⟨.hbm, 243, rfl⟩
abbrev main_call9_c_1 : Ref sig .tc := ⟨.hbm, 244, rfl⟩
abbrev main_call9_c_2 : Ref sig .tc := ⟨.hbm, 245, rfl⟩
abbrev main_call9_v6 : Ref sig .tc := ⟨.hbm, 246, rfl⟩
abbrev main_call9_v7 : Ref sig .tc := ⟨.hbm, 247, rfl⟩
abbrev main_call9_v8 : Ref sig .tc := ⟨.hbm, 248, rfl⟩
abbrev main_call9_v9 : Ref sig .tc := ⟨.hbm, 249, rfl⟩
abbrev main_call9_v10 : Ref sig .tc := ⟨.hbm, 250, rfl⟩
abbrev main_call9_v11 : Ref sig .tc := ⟨.hbm, 251, rfl⟩
abbrev main_call9_c_3 : Ref sig .tc := ⟨.hbm, 252, rfl⟩
abbrev main_call9_v12 : Ref sig .tc := ⟨.hbm, 253, rfl⟩
abbrev main_call9_v13 : Ref sig .tc := ⟨.hbm, 254, rfl⟩
abbrev main_call9_v14 : Ref sig .tc := ⟨.hbm, 255, rfl⟩
abbrev main_call9_cst : Ref sig .tc := ⟨.hbm, 256, rfl⟩
abbrev main_call9_v15 : Ref sig .tc := ⟨.hbm, 257, rfl⟩
abbrev main_v73 : Ref sig .tc := ⟨.hbm, 258, rfl⟩
abbrev main_v74 : Ref sig .tc := ⟨.hbm, 259, rfl⟩
abbrev main_v75 : Ref sig .tc := ⟨.hbm, 260, rfl⟩
abbrev main_v76 : Ref sig .tc := ⟨.hbm, 261, rfl⟩
abbrev main_c_23 : Ref sig .tc := ⟨.hbm, 262, rfl⟩
abbrev main_v77 : Ref sig .tc := ⟨.hbm, 263, rfl⟩
abbrev main_v78 : Ref sig .tc := ⟨.hbm, 264, rfl⟩
abbrev main_c_24 : Ref sig .tc := ⟨.hbm, 265, rfl⟩
abbrev main_v79 : Ref sig .tc := ⟨.hbm, 266, rfl⟩
abbrev main_v80 : Ref sig .tc := ⟨.hbm, 267, rfl⟩
abbrev main_v81 : Ref sig .tc := ⟨.hbm, 268, rfl⟩
abbrev main_v82 : Ref sig .tc := ⟨.hbm, 269, rfl⟩
abbrev main_v83 : Ref sig .tc := ⟨.hbm, 270, rfl⟩

abbrev nD : Nat := 1
abbrev τ : Topo := Topo.v7x

variable {F : FTy → Type} [FloatOps F]
-- ==== Proof.Spec.lean ====
/- The mathematics both programs compute: the product of a matrix of rows by a square matrix, over the extended
   reals, as a sum over the contracted coordinate. -/
module

public import Idealize.ShloMosaic.Lib.ValueIdxCore
public import Idealize.ShloMosaic.PureOps.Ideal.Laws

@[expose] public section

noncomputable section

namespace Cert.TwoProducts

open Idealize.ShloMosaic Idealize.ShloMosaic.ValueIdx
open scoped BigOperators

/-- The product of `M` rows of length `K` by a `K` × `N` matrix: entry (r, c) is the sum over `k` of
    `x[r, k] · w[k, c]`. -/
def prod {M K N : ℕ} (x : FVec Ideal ⟨2, ![M, K]⟩ .f32) (w : FVec Ideal ⟨2, ![K, N]⟩ .f32) : FVec Ideal ⟨2, ![M, N]⟩ .f32 :=
  fun j => ∑ k : Fin K, x (ix2 ⟨(j 0).val, idx2_lt0 j⟩ k) * w (ix2 k ⟨(j 1).val, idx2_lt1 j⟩)

/-- The product at row `r` and column `c`. -/
theorem prod_apply {M K N : ℕ} (x : FVec Ideal ⟨2, ![M, K]⟩ .f32) (w : FVec Ideal ⟨2, ![K, N]⟩ .f32) (r : Fin M) (c : Fin N) :
    prod x w (ix2 r c) = ∑ k : Fin K, x (ix2 r k) * w (ix2 k c) := rfl

/-- Rows go through the product one by one: if the rows of `y` are rows of `x`, chosen by `f`, then the rows of the
    product of `y` are the rows of the product of `x`, chosen by `f`. -/
theorem prod_rows {M M' K N : ℕ} (x : FVec Ideal ⟨2, ![M, K]⟩ .f32) (y : FVec Ideal ⟨2, ![M', K]⟩ .f32)
    (w : FVec Ideal ⟨2, ![K, N]⟩ .f32) (f : Fin M' → Fin M) (h : ∀ r k, y (ix2 r k) = x (ix2 (f r) k)) (r : Fin M') (c : Fin N) :
    prod y w (ix2 r c) = prod x w (ix2 (f r) c) := by
  rw [prod_apply, prod_apply]
  exact Finset.sum_congr rfl fun k _ => by rw [h]

end Cert.TwoProducts

end
-- ==== Proof.Block.lean ====
/- What one block of the kernel computes: the rows of the block times the first matrix, times the second. -/
module

public import proofs.«01_k».proof.Proof.Spec
public import proofs.«01_k».proof.Proof.Gen.KernelIdeal.Frame
public import Idealize.ShloMosaic.Lib.MatmulPlain
public import Idealize.ShloMosaic.Lib.Pipeline.Value

@[expose] public section

noncomputable section

namespace Cert.TwoProducts

open Idealize.ShloMosaic Idealize.ShloMosaic.ValueIdx Cert.KernelIdeal Cert.KernelIdeal.Gen
open scoped BigOperators

/-- The kernel's product into a zero accumulator is the product `prod`. -/
theorem matmul_eq_prod (x : Vec Ideal S24576x128 .f32) (w : Vec Ideal S128x128 .f32) :
    matmul (φ₁ := .f32) (φ₂ := .f32) dot_S24576x128_S128x128_S24576x128_1_0_0_1_n_n none x w (constant S24576x128 .f32 0x00000000#32) = prod x w := by
  funext j
  obtain ⟨r, c, rfl⟩ : ∃ (r : Fin 24576) (c : Fin 128), j = ix2 r c := ⟨j 0, j 1, eq_ix2 j⟩
  refine (Ideal.matmul_plain_apply (M := 24576) (K := 128) (N := 128) none x w _ r c).trans ?_
  rw [prod_apply]
  show Ideal.ofBits .f32 0x00000000#32 + _ = _
  rw [Ideal.ofBits_zero_f32, zero_add]

/-- What the body stores: the block times the first matrix, times the second. -/
theorem payload_eq (x : Vec Ideal S24576x128 .f32) (w₁ w₂ : Vec Ideal S128x128 .f32) :
    k0_pay1 x w₁ w₂ = prod (prod x w₁) w₂ := by
  unfold k0_pay1
  dsimp only
  rw [matmul_eq_prod, matmul_eq_prod]

/-- Both offsets of the body's loads and of its store are zero. -/
theorem offsets_zero : (![0, 0] : Fin 2 → Nat) = fun _ => 0 := funext fun a => by fin_cases a <;> rfl

/-- What the body leaves in the output block, from the three input blocks. -/
theorem block_eq (x : Vec Ideal S24576x128 .f32) (w₁ w₂ : Vec Ideal S128x128 .f32) :
    out0_3 x w₁ w₂ = prod (prod x w₁) w₂ := by
  unfold out0_3
  rw [View.canon_unit_zero offsets_zero, View.ld_unit_zero offsets_zero, View.ld_unit_zero offsets_zero,
    View.ld_unit_zero offsets_zero, payload_eq]

end Cert.TwoProducts

end
-- ==== Proof.Array.lean ====
/- What the kernel's result array holds after the run: the argument rows times the first matrix, times the second. -/
module

public import proofs.«01_k».proof.Proof.Block
public import proofs.«01_k».proof.Proof.Gen.KernelIdeal.Value
public import Idealize.ShloMosaic.Lib.Pipeline.ValueKit.Geometry

@[expose] public section

noncomputable section

namespace Cert.TwoProducts

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- The result the kernel is shown to leave on device `c`. -/
abbrev result (c : Dev nD) : FVec Ideal S98304x128 .f32 :=
  prod (prod (m ((c : Thread nD τ).loc main_arg0)) (m ((c : Thread nD τ).loc main_arg2))) (m ((c : Thread nD τ).loc main_arg3))

/-- The block indices at grid point `t`: the rows' windows are at block `t`, the matrices' at block zero. -/
theorem index_facts (t : Fin cfg0.N) :
    (win0_0.index t 0 = t.val ∧ win0_0.index t 1 = 0) ∧ (win0_1.index t 0 = 0 ∧ win0_1.index t 1 = 0)
      ∧ (win0_2.index t 0 = 0 ∧ win0_2.index t 1 = 0) ∧ (win0_3.index t 0 = t.val ∧ win0_3.index t 1 = 0) :=
  (by decide +kernel : ∀ t : Fin grid0.N,
    (win0_0.index t 0 = t.val ∧ win0_0.index t 1 = 0) ∧ (win0_1.index t 0 = 0 ∧ win0_1.index t 1 = 0)
      ∧ (win0_2.index t 0 = 0 ∧ win0_2.index t 1 = 0) ∧ (win0_3.index t 0 = t.val ∧ win0_3.index t 1 = 0)) t

/-- Row `r` of block `t`, among all rows. -/
def row (t : Fin cfg0.N) (r : Fin 24576) : Fin 98304 := ⟨t.val * 24576 + r.val, by
  have h : t.val < 4 := lt_of_lt_of_eq t.isLt N_0
  have := r.isLt; omega⟩

/-- The first input's block at point `t` is the rows `24576 t …` of the first argument. -/
theorem rows_block (c : Dev nD) (t : Fin cfg0.N) (r : Fin 24576) (k : Fin 128) :
    (iblk m c 0 t : Vec Ideal S24576x128 .f32) (ix2 r k) = m ((c : Thread nD τ).loc main_arg0) (ix2 (row t r) k) := by
  have h := (index_facts t).1
  refine congrArg (m ((c : Thread nD τ).loc main_arg0)) (funext fun a => Fin.ext ?_)
  refine (win0_0.rect_emb_val t (ix2 r k) a rfl).trans ?_
  match a with
  | ⟨0, _⟩ => exact congrArg (· * 24576 + r.val) h.1
  | ⟨1, _⟩ => exact (congrArg (· * 128 + k.val) h.2).trans (by simp)

/-- The second input's block at every point is the first matrix. -/
theorem first_matrix (c : Dev nD) (t : Fin cfg0.N) :
    (iblk m c 1 t : Vec Ideal S128x128 .f32) = m ((c : Thread nD τ).loc main_arg2) := by
  have h := (index_facts t).2.1
  funext j
  refine congrArg (m ((c : Thread nD τ).loc main_arg2)) (funext fun a => Fin.ext ?_)
  refine win0_1.rect_emb_val_of_index_zero t a ?_ j
  match a with
  | ⟨0, _⟩ => exact h.1
  | ⟨1, _⟩ => exact h.2

/-- The third input's block at every point is the second matrix. -/
theorem second_matrix (c : Dev nD) (t : Fin cfg0.N) :
    (iblk m c 2 t : Vec Ideal S128x128 .f32) = m ((c : Thread nD τ).loc main_arg3) := by
  have h := (index_facts t).2.2.1
  funext j
  refine congrArg (m ((c : Thread nD τ).loc main_arg3)) (funext fun a => Fin.ext ?_)
  refine win0_2.rect_emb_val_of_index_zero t a ?_ j
  match a with
  | ⟨0, _⟩ => exact h.1
  | ⟨1, _⟩ => exact h.2

/-- What point `t` writes back is its block of the result. -/
theorem flushed_eq (c : Dev nD) (t : Fin cfg0.N) :
    (dats m 0 c).flushed 3 t = ((cfg0.win 3).blk t).view.read (Elt Ideal) (result m c) := by
  rw [Cert.KernelIdeal.Value.flushed3, block_eq, first_matrix, second_matrix]
  have h := (index_facts t).2.2.2
  funext y
  obtain ⟨r, k, rfl⟩ : ∃ (r : Fin 24576) (k : Fin 128), y = ix2 r k := ⟨y 0, y 1, eq_ix2 (n0 := 24576) (n1 := 128) y⟩
  have hy : (((cfg0.win 3).blk t).view.emb (ix2 r k) : S98304x128.Idx) = ix2 (row t r) k := by
    funext a
    refine Fin.ext ((win0_3.rect_emb_val t (ix2 r k) a rfl).trans ?_)
    match a with
    | ⟨0, _⟩ => exact congrArg (· * 24576 + r.val) h.1
    | ⟨1, _⟩ => exact (congrArg (· * 128 + k.val) h.2).trans (by simp)
  show prod (prod (iblk m c 0 t : Vec Ideal S24576x128 .f32) _) _ (ix2 r k) = result m c (((cfg0.win 3).blk t).view.emb (ix2 r k))
  rw [hy]
  refine prod_rows _ _ _ (row t) (fun r k => ?_) r k
  exact prod_rows _ _ _ (row t) (rows_block m c t) r k

/-- Every row of the result is in some point's block. -/
theorem cover (i : S98304x128.Idx) : ∃ t : Fin cfg0.N, (cfg0.win 3).flush t = true ∧ i ∈ ((cfg0.win 3).blk t).view.set := by
  have h0 : (i 0 : Nat) < 98304 := (i 0).isLt
  have h1 : (i 1 : Nat) < 128 := (i 1).isLt
  have hN : cfg0.N = 4 := N_0
  let t : Fin cfg0.N := ⟨(i 0 : Nat) / 24576, by rw [hN]; omega⟩
  have ht : t.val = (i 0 : Nat) / 24576 := rfl
  refine ⟨t, flush0_3 t, Finset.mem_map.mpr ⟨ix2 (n0 := 24576) (n1 := 128) ⟨(i 0 : Nat) % 24576, by omega⟩ ⟨(i 1 : Nat), h1⟩, Finset.mem_univ _, ?_⟩⟩
  have h := (index_facts t).2.2.2
  funext a
  refine Fin.ext ((win0_3.rect_emb_val t _ a rfl).trans ?_)
  match a with
  | ⟨0, _⟩ =>
    show win0_3.index t 0 * 24576 + (i 0 : Nat) % 24576 = (i 0 : Nat)
    rw [h.1, ht]; omega
  | ⟨1, _⟩ =>
    show win0_3.index t 1 * 128 + (i 1 : Nat) = (i 1 : Nat)
    rw [h.2]; omega

/-- So the result array ends at the argument rows times the first matrix, times the second. -/
theorem array_eq (c : Dev nD) : (dats m 0 c).arrAt 3 cfg0.N = result m c :=
  (dats m 0 c).arrAt_eq_of_cover 3 (result m c) (fun t _ => flushed_eq m c t) cover

end Cert.TwoProducts

end
-- ==== Proof.Sorting.lean ====
/- The reference's row order: an argsort of 98304 integer keys is, whatever the keys, a permutation of the rows, and the
   row numbers it holds, which are neither negative nor too large, go through the indexing unchanged. -/
module

public import proofs.«01_k».proof.Proof.Gen.ReferenceIdeal
public import Idealize.ShloMosaic.Lib.SortFacts
public import Idealize.ShloMosaic.Lib.ValueIdxCore
public import Idealize.ShloMosaic.Lib.WordCmp
public import Idealize.ShloMosaic.Lib.Routing.OpsPair

@[expose] public section

noncomputable section

namespace Cert.TwoProducts

open Idealize.ShloMosaic Idealize.ShloMosaic.ValueIdx Cert.ReferenceIdeal Cert.ReferenceIdeal.Facts₀

/-- The second operand of a two-operand sort along the one axis of a vector is permuted by a bijection of the positions. -/
theorem sort2_perm {α β : Type} {n : Nat} (cmp : α × β → α × β → BitVec 1) (x : (⟨1, ![n]⟩ : Shape).Idx → α)
    (y : (⟨1, ![n]⟩ : Shape).Idx → β) :
    ∃ σ : Fin n → Fin n, Function.Bijective σ ∧ ∀ k, (Host.sort2 ⟨1, ![n]⟩ 0 cmp x y).2 (ix1 k) = y (ix1 (σ k)) := by
  refine ⟨sortedFrom fun k k' => cmp (x (ix1 k), y (ix1 k)) (x (ix1 k'), y (ix1 k')) == 1#1,
    ⟨sortedFrom_injective _, sortedFrom_surjective _⟩, fun k => ?_⟩
  have e : ∀ q : Fin n, (ix1 k : (⟨1, ![n]⟩ : Shape).Idx).along (0 : Fin 1) q = ix1 q := fun q => by
    rw [Shape.Idx.along_rank1]; exact (eq_ix1 _).trans (congrArg ix1 (Shape.Idx.ofFin_zero q))
  unfold Host.sort2
  rw [dif_pos (show (0 : Nat) < (⟨1, ![n]⟩ : Shape).rank from Nat.one_pos)]
  refine congrArg y ((e _).trans (congrArg ix1 ?_))
  exact congrArg (fun b : Fin n → Fin n → Bool => sortedFrom b k) (funext fun p => funext fun q =>
    congrArg₂ (fun u v : (⟨1, ![n]⟩ : Shape).Idx => cmp (x u, y u) (x v, y v) == 1#1) (e p) (e q))

/-- The reference's argsort holds, at position `k`, the row number `σ k` for a permutation `σ` of the rows. -/
theorem argsort_perm (keys : IVec S98304 32) :
    ∃ σ : Fin 98304 → Fin 98304, Function.Bijective σ
      ∧ ∀ k, (Host.sort2 S98304 0 comparator_i32_i32_d0 keys (iotaInDim S98304 32 0)).2 (ix1 k) = BitVec.ofNat 32 (σ k).val :=
  sort2_perm comparator_i32_i32_d0 keys (iotaInDim S98304 32 0)

/-- The column of row numbers the reference's take and scatter read: numpy's wrap of a negative index, in one column. -/
abbrev column (idx : IVec S98304 32) : IVec S98304x1 32 :=
  broadcastInDim S98304x1 ![0] bcast_S98304_S98304x1_0
    (select (cmpi .slt idx (broadcastInDim S98304 ![] bcast_S_S98304 (constantI S_ 32 0#32)))
      (addi idx (broadcastInDim S98304 ![] bcast_S_S98304 (constantI S_ 32 98304#32))) idx)

/-- A row number below 98304 goes through the wrap unchanged. -/
theorem column_apply (idx : IVec S98304 32) (σ : Fin 98304 → Fin 98304) (h : ∀ k, idx (ix1 k) = BitVec.ofNat 32 (σ k).val)
    (k : Fin 98304) (z : Fin 1) : column idx (ix2 k z) = BitVec.ofNat 32 (σ k).val := by
  have e : column idx (ix2 k z) = Scalar.select (IntOp.cmpi .slt (idx (ix1 k)) 0#32) (IntOp.addi (idx (ix1 k)) 98304#32) (idx (ix1 k)) := by
    refine congrArg (fun i => Scalar.select (IntOp.cmpi .slt (idx i) 0#32) (IntOp.addi (idx i) 98304#32) (idx i)) (funext fun a => Fin.ext ?_)
    match a with | ⟨0, _⟩ => rfl
  rw [e, Routing.wrap_of_lt, h]
  rw [h, BitVec.toNat_ofNat]
  have := (σ k).isLt
  rw [Nat.mod_eq_of_lt] <;> omega

end Cert.TwoProducts

end
-- ==== Proof.Rows.lean ====
/- Reading rows and writing rows in the reference, through a column of row numbers: the take with its mask of numbers in
   range, and the overwriting scatter by a permutation. -/
module

public import proofs.«01_k».proof.Proof.Sorting
public import Idealize.ShloMosaic.Lib.StableHlo.Predicate

@[expose] public section

noncomputable section

namespace Cert.TwoProducts

open Idealize.ShloMosaic Idealize.ShloMosaic.ValueIdx Cert.ReferenceIdeal Cert.ReferenceIdeal.Facts₀

/-- A row number below 98304, read signed, is itself. -/
theorem toInt_row (q : Fin 98304) : (BitVec.ofNat 32 q.val).toInt = q.val :=
  StableHlo.Predicate.toInt_ofNat_small _ (by have := q.isLt; omega)

/-- The take reads, at row `k`, the row whose number the column holds there. -/
theorem gather_apply {α : Type} (x : S98304x128.Idx → α) (col : IVec S98304x1 32) (k q : Fin 98304) (c : Fin 128)
    (h : col (ix2 k (0 : Fin 1)) = BitVec.ofNat 32 q.val) :
    Host.gather gather_S98304x128_S98304x1_S98304x128_1_0_n_n_0_1_1128 x col (ix2 k c) = x (ix2 q c) := by
  unfold Host.gather
  refine congrArg x (funext fun a => Fin.ext ?_)
  show gather_S98304x128_S98304x1_S98304x128_1_0_n_n_0_1_1128.start (ix2 k c) col a
    + gather_S98304x128_S98304x1_S98304x128_1_0_n_n_0_1_1128.batchCoord (ix2 k c) a
    + gather_S98304x128_S98304x1_S98304x128_1_0_n_n_0_1_1128.offCoord (ix2 k c) a = _
  rw [GatherDims.batchCoord_eq_zero _ _ _ (by exact List.not_mem_nil), Nat.add_zero]
  match a with
  | ⟨0, _⟩ =>
    rw [GatherDims.offCoord_eq_zero _ _ _ (fun hm => ((GatherDims.mem_sKept _ _).mp hm).1 (List.mem_singleton.mpr rfl)), Nat.add_zero]
    unfold GatherDims.start
    rw [dif_pos (show (⟨0, by decide⟩ : Fin S98304x128.rank) ∈ gather_S98304x128_S98304x1_S98304x128_1_0_n_n_0_1_1128.startIndexMap from List.mem_singleton.mpr rfl)]
    have hsi : gather_S98304x128_S98304x1_S98304x128_1_0_n_n_0_1_1128.siIdx (ix2 k c)
        ⟨List.idxOf (⟨0, by decide⟩ : Fin S98304x128.rank) gather_S98304x128_S98304x1_S98304x128_1_0_n_n_0_1_1128.startIndexMap,
          List.idxOf_lt_length_iff.2 (List.mem_singleton.mpr rfl)⟩ = (ix2 k (0 : Fin 1) : S98304x1.Idx) := by
      funext b; refine Fin.ext ?_
      match b with
      | ⟨0, _⟩ => rfl
      | ⟨1, _⟩ => rfl
    rw [hsi, h, toInt_row]
    show min q.val (98304 - 1) = q.val
    have := q.isLt; omega
  | ⟨1, _⟩ =>
    unfold GatherDims.start
    rw [dif_neg (by show ¬ (1 : Fin 2) ∈ [(0 : Fin 2)]; decide), Nat.zero_add]
    unfold GatherDims.offCoord
    rw [dif_pos ((GatherDims.mem_sKept _ _).2
      ⟨by show ¬ (1 : Fin 2) ∈ [(0 : Fin 2)]; decide, List.not_mem_nil⟩)]
    rfl

/-- A conjunction of bits that are all one, started at one, is one. -/
theorem foldl_andi_one {ι : Type} (f : ι → BitVec 1) (hf : ∀ i, f i = 1#1) (l : List ι) :
    l.foldl (fun r n => IntOp.andi r (f n)) 1#1 = 1#1 := by
  induction l with
  | nil => rfl
  | cons a l ih => rw [List.foldl_cons, hf a]; exact ih

/-- So a reduction of such bits is one. -/
theorem reduce_andi_one {s t u : Shape} {axes : List (Fin s.rank)} (x : IVec s 1) (init : IVec u 1) (hx : ∀ i, x i = 1#1)
    (hi : ∀ i, init i = 1#1) (hr : s.ReducesTo axes t) (hu : 0 < u.numel) (j : t.Idx) :
    Host.reduce IntOp.andi x init hr hu j = 1#1 := by
  unfold Host.reduce
  rw [hi]
  exact foldl_andi_one (fun n => x (s.rowMajor.symm n)) (fun n => hx _) _

/-- The take's mask: one bit per row, whether the column's number there is in range, spread over the row. -/
abbrev inRange (col : IVec S98304x1 32) : IVec S98304x128 1 :=
  broadcastInDim S98304x128 ![0] bcast_S98304_S98304x128_0
    (Host.reduce IntOp.andi
      (andi (cmpi .sge col (broadcastInDim S98304x1 ![] bcast_S_S98304x1 (constantI S_ 32 0#32)))
        (cmpi .sle col (broadcastInDim S98304x1 ![0, 1] bcast_S1x1_S98304x1_0_1 (broadcastInDim S1x1 ![1] bcast_S1_S1x1_1 (constantI S1 32 98303#32)))))
      (constantI S_ 1 1#1) reducesTo_S98304x1_S98304_d1 h_S_)

/-- Where every number of the column is a row number, the mask is set everywhere. -/
theorem inRange_apply (col : IVec S98304x1 32) (σ : Fin 98304 → Fin 98304)
    (h : ∀ k z, col (ix2 k z) = BitVec.ofNat 32 (σ k).val) (j : S98304x128.Idx) : inRange col j = 1#1 := by
  refine reduce_andi_one _ _ (fun i => ?_) (fun _ => rfl) _ _ _
  obtain ⟨k, z, rfl⟩ : ∃ (k : Fin 98304) (z : Fin 1), i = ix2 k z := ⟨i 0, i 1, eq_ix2 i⟩
  show IntOp.andi (IntOp.cmpi .sge (col (ix2 k z)) (BitVec.ofNat 32 0)) (IntOp.cmpi .sle (col (ix2 k z)) (BitVec.ofNat 32 98303)) = 1#1
  have hlt := (σ k).isLt
  rw [h, (WordCmp.cmpi_sge_ofNat_eq_one_iff (by omega) (by omega)).2 (Nat.zero_le _),
    (WordCmp.cmpi_sle_ofNat_eq_one_iff (by omega) (by omega)).2 (by omega)]
  rfl

/-- A left fold that keeps its last accepted value, over a list in which some element is accepted and all accepted
    elements have the same value, ends at that value. -/
theorem foldl_last {ι α : Type} (P : ι → Prop) [DecidablePred P] (v : ι → α) (b : α) (hv : ∀ n, P n → v n = b)
    (l : List ι) (a : α) (h : a = b ∨ ∃ n ∈ l, P n) : l.foldl (fun a n => if P n then v n else a) a = b := by
  induction l generalizing a with
  | nil => exact h.resolve_right fun ⟨_, hn, _⟩ => absurd hn List.not_mem_nil
  | cons n l ih =>
    rw [List.foldl_cons]
    refine ih _ ?_
    by_cases hn : P n
    · rw [if_pos hn]; exact Or.inl (hv n hn)
    · rw [if_neg hn]
      rcases h with h | ⟨n', hn', hP⟩
      · exact Or.inl h
      · rcases List.mem_cons.1 hn' with rfl | hm
        · exact absurd hP hn
        · exact Or.inr ⟨n', hm, hP⟩

/-- Where the reference's scatter puts entry (k, c) of its updates: at the row whose number the column holds at `k`, in
    the same column. -/
theorem scatter_lands_row (col : IVec S98304x1 32) (k q : Fin 98304) (c : Fin 128)
    (h : col (ix2 k (0 : Fin 1)) = BitVec.ofNat 32 q.val) :
    scatter_S98304x128_S98304x1_S98304x128_1_0_0_1.resultIdx? (ix2 k c) col = some (ix2 q c) := by
  have h0 : scatter_S98304x128_S98304x1_S98304x128_1_0_0_1.start (ix2 k c) col (0 : Fin 2)
      + scatter_S98304x128_S98304x1_S98304x128_1_0_0_1.window (ix2 k c) (0 : Fin 2) = q.val := by
    have hw : scatter_S98304x128_S98304x1_S98304x128_1_0_0_1.window (ix2 k c) (0 : Fin 2) = 0 := by
      unfold ScatterDims.window
      rw [dif_neg (by show ¬ (0 : Fin 2) ∈ _; decide)]
    unfold ScatterDims.start
    rw [hw, dif_pos (show (0 : Fin 2) ∈ scatter_S98304x128_S98304x1_S98304x128_1_0_0_1.scatterDimsToOperandDims from List.mem_singleton.mpr rfl)]
    have hsi : scatter_S98304x128_S98304x1_S98304x128_1_0_0_1.siIdx (ix2 k c)
        ⟨List.idxOf (0 : Fin 2) scatter_S98304x128_S98304x1_S98304x128_1_0_0_1.scatterDimsToOperandDims,
          List.idxOf_lt_length_iff.2 (List.mem_singleton.mpr rfl)⟩ = (ix2 k (0 : Fin 1) : S98304x1.Idx) := by
      funext b; refine Fin.ext ?_
      match b with
      | ⟨0, _⟩ => rfl
      | ⟨1, _⟩ => rfl
    rw [hsi, h, toInt_row]; rfl
  have h1 : scatter_S98304x128_S98304x1_S98304x128_1_0_0_1.start (ix2 k c) col (1 : Fin 2)
      + scatter_S98304x128_S98304x1_S98304x128_1_0_0_1.window (ix2 k c) (1 : Fin 2) = c.val := by
    have hs : scatter_S98304x128_S98304x1_S98304x128_1_0_0_1.start (ix2 k c) col (1 : Fin 2) = 0 := by
      unfold ScatterDims.start
      rw [dif_neg (by show ¬ (1 : Fin 2) ∈ [(0 : Fin 2)]; decide)]
    have hw : scatter_S98304x128_S98304x1_S98304x128_1_0_0_1.window (ix2 k c) (1 : Fin 2) = c.val := by
      unfold ScatterDims.window
      rw [dif_pos (by show (1 : Fin 2) ∈ _; decide)]
      rfl
    rw [hs, hw, zero_add]
  unfold ScatterDims.resultIdx?
  rw [dif_pos]
  · refine congrArg some (funext fun a => Fin.ext ?_)
    match a with
    | ⟨0, _⟩ => exact (congrArg Int.toNat h0).trans (Int.toNat_natCast _)
    | ⟨1, _⟩ => exact (congrArg Int.toNat h1).trans (Int.toNat_natCast _)
  · intro a
    have hq := q.isLt
    have hc := c.isLt
    match a with
    | ⟨0, _⟩ => exact ⟨le_of_le_of_eq (Int.natCast_nonneg _) h0.symm, lt_of_eq_of_lt h0 (Int.ofNat_lt.2 hq)⟩
    | ⟨1, _⟩ => exact ⟨le_of_le_of_eq (Int.natCast_nonneg _) h1.symm, lt_of_eq_of_lt h1 (Int.ofNat_lt.2 hc)⟩

/-- The reference's overwriting scatter by a permutation `σ`: row `σ k` of the result is row `k` of the updates,
    whatever the operand holds. -/
theorem scatter_apply {α : Type} (x : S98304x128.Idx → α) (col : IVec S98304x1 32) (upd : S98304x128.Idx → α)
    (σ : Fin 98304 → Fin 98304) (hσ : Function.Injective σ) (h : ∀ k, col (ix2 k (0 : Fin 1)) = BitVec.ofNat 32 (σ k).val)
    (k : Fin 98304) (c : Fin 128) :
    Host.scatter scatter_S98304x128_S98304x1_S98304x128_1_0_0_1 (fun _ b => b) x col upd (ix2 (σ k) c) = upd (ix2 k c) := by
  rw [Routing.scatter_at]
  refine foldl_last (fun n => scatter_S98304x128_S98304x1_S98304x128_1_0_0_1.resultIdx? (S98304x128.rowMajor.symm n) col = some (ix2 (σ k) c))
    (fun n => upd (S98304x128.rowMajor.symm n)) _ (fun n hn => ?_) _ _ (Or.inr ⟨S98304x128.rowMajor (ix2 k c), List.mem_finRange _, ?_⟩)
  · generalize S98304x128.rowMajor.symm n = j at hn
    obtain ⟨k', c', rfl⟩ : ∃ (k' : Fin 98304) (c' : Fin 128), j = ix2 k' c' := ⟨j 0, j 1, eq_ix2 j⟩
    rw [scatter_lands_row col k' (σ k') c' (h k')] at hn
    have e := Option.some.inj hn
    have e0 : σ k' = σ k := congrFun e (0 : Fin 2)
    have e1 : c' = c := congrFun e (1 : Fin 2)
    rw [hσ e0, e1]
  · show scatter_S98304x128_S98304x1_S98304x128_1_0_0_1.resultIdx? (S98304x128.rowMajor.symm (S98304x128.rowMajor (ix2 k c))) col = _
    rw [Equiv.symm_apply_apply]
    exact scatter_lands_row col k (σ k) c (h k)

end Cert.TwoProducts

end
-- ==== Proof.Stage.lean ====
/- One stage of the reference — take the rows in sorted order, cut them in windows, multiply each window by the matrix,
   write the rows back where they came from — is the product of the rows by the matrix, whatever the sort keys. -/
module

public import proofs.«01_k».proof.Proof.Spec
public import proofs.«01_k».proof.Proof.Rows
public import Idealize.ShloMosaic.Lib.Pipeline.Value

@[expose] public section

noncomputable section

namespace Cert.TwoProducts

open Idealize.ShloMosaic Idealize.ShloMosaic.ValueIdx Cert.ReferenceIdeal Cert.ReferenceIdeal.Facts₀
open scoped BigOperators

/-- The windows' product, at an entry: the sum over the contracted coordinate. -/
theorem dot_apply (x : FVec Ideal S24x4096x128 .f32) (w : FVec Ideal S128x128 .f32) (g : Fin 24) (a : Fin 4096) (c : Fin 128) :
    Host.dotGeneral dot_S24x4096x128_S128x128_S24x4096x128_2_0_01_1_n_n none x w (ix3 g a c)
      = ∑ k : Fin 128, x (ix3 g a k) * w (ix2 k c) := by
  show FloatOps.dotGeneral _ _ _ x w (ix3 g a c) = _
  rw [Ideal.dotGeneral_apply, ← Equiv.sum_comp (contrEquiv1 dot_S24x4096x128_S128x128_S24x4096x128_2_0_01_1_n_n 128 rfl rfl).symm]
  refine Finset.sum_congr rfl fun k _ => ?_
  have hk := contrEquiv1_symm_val dot_S24x4096x128_S128x128_S24x4096x128_2_0_01_1_n_n 128 rfl rfl k
  have el : dot_S24x4096x128_S128x128_S24x4096x128_2_0_01_1_n_n.lhsIdx (ix3 g a c)
      ((contrEquiv1 dot_S24x4096x128_S128x128_S24x4096x128_2_0_01_1_n_n 128 rfl rfl).symm k) = ix3 g a k := by
    funext ax; apply Fin.ext
    match ax with
    | ⟨0, _⟩ => rfl
    | ⟨1, _⟩ => rfl
    | ⟨2, _⟩ => exact hk
  have er : dot_S24x4096x128_S128x128_S24x4096x128_2_0_01_1_n_n.rhsIdx (ix3 g a c)
      ((contrEquiv1 dot_S24x4096x128_S128x128_S24x4096x128_2_0_01_1_n_n 128 rfl rfl).symm k) = ix2 k c := by
    funext ax; apply Fin.ext
    match ax with
    | ⟨0, _⟩ => exact hk
    | ⟨1, _⟩ => rfl
  rw [el, er]

/-- Cutting the rows in windows, multiplying each window and joining the windows is the product of the rows. -/
theorem windows_prod (x : FVec Ideal S98304x128 .f32) (w : FVec Ideal S128x128 .f32) :
    shapeCast S98304x128 (Host.dotGeneral dot_S24x4096x128_S128x128_S24x4096x128_2_0_01_1_n_n none
      (shapeCast S24x4096x128 x shapeCasts_S98304x128_S24x4096x128) w) shapeCasts_S24x4096x128_S98304x128 = prod x w := by
  funext j
  obtain ⟨r, c, rfl⟩ : ∃ (r : Fin 98304) (c : Fin 128), j = ix2 r c := ⟨j 0, j 1, eq_ix2 j⟩
  have hr := r.isLt
  have hpos : ∀ k : Fin 128, (S24x4096x128.rowMajor (ix3 (⟨r.val / 4096, by omega⟩ : Fin 24) (⟨r.val % 4096, by omega⟩ : Fin 4096) k)).val
      = (S98304x128.rowMajor (ix2 r k)).val := fun k => by
    rw [Shape.rowMajor_val_three, Shape.rowMajor_val_two]
    show (r.val / 4096 * 4096 + r.val % 4096) * 128 + k.val = r.val * 128 + k.val
    omega
  refine (shapeCast_apply _ _ (ix2 r c) (ix3 (⟨r.val / 4096, by omega⟩ : Fin 24) (⟨r.val % 4096, by omega⟩ : Fin 4096) c) (hpos c)).trans ?_
  rw [dot_apply, prod_apply]
  refine Finset.sum_congr rfl fun k _ => ?_
  rw [shapeCast_apply x _ _ (ix2 r k) (hpos k).symm]

/-- One stage of the reference, on rows `x`, with the sorted row numbers `idx` and the matrix `w`. -/
abbrev stage (x : FVec Ideal S98304x128 .f32) (idx : IVec S98304 32) (w : FVec Ideal S128x128 .f32) : FVec Ideal S98304x128 .f32 :=
  Host.scatter scatter_S98304x128_S98304x1_S98304x128_1_0_0_1 (fun _ b => b) x (column idx)
    (shapeCast S98304x128 (Host.dotGeneral dot_S24x4096x128_S128x128_S24x4096x128_2_0_01_1_n_n none
      (shapeCast S24x4096x128
        (select (inRange (column idx)) (Host.gather gather_S98304x128_S98304x1_S98304x128_1_0_n_n_0_1_1128 x (column idx))
          (broadcastInDim S98304x128 ![] bcast_S_S98304x128 (constant S_ .f32 0x7FC00000#32)))
        shapeCasts_S98304x128_S24x4096x128) w) shapeCasts_S24x4096x128_S98304x128)

/-- A stage whose row numbers are a permutation is the product of the rows by the matrix. -/
theorem stage_eq (x : FVec Ideal S98304x128 .f32) (idx : IVec S98304 32) (w : FVec Ideal S128x128 .f32)
    (σ : Fin 98304 → Fin 98304) (hσ : Function.Bijective σ) (h : ∀ k, idx (ix1 k) = BitVec.ofNat 32 (σ k).val) :
    stage x idx w = prod x w := by
  have hcol := column_apply idx σ h
  funext j
  obtain ⟨r, c, rfl⟩ : ∃ (r : Fin 98304) (c : Fin 128), j = ix2 r c := ⟨j 0, j 1, eq_ix2 j⟩
  obtain ⟨k, rfl⟩ := hσ.2 r
  refine (scatter_apply x (column idx) _ σ hσ.1 (fun k => hcol k 0) k c).trans ?_
  rw [windows_prod]
  refine prod_rows _ _ _ σ (fun k c => ?_) k c
  rw [select_apply, inRange_apply _ σ hcol, select_one]
  exact gather_apply x (column idx) k (σ k) c (hcol k 0)

/-- A stage whose row numbers are an argsort is the product of the rows by the matrix, whatever the keys. -/
theorem stage_argsort (x : FVec Ideal S98304x128 .f32) (keys : IVec S98304 32) (w : FVec Ideal S128x128 .f32) :
    stage x (Host.sort2 S98304 0 comparator_i32_i32_d0 keys (iotaInDim S98304 32 0)).2 w = prod x w := by
  obtain ⟨σ, hσ, h⟩ := argsort_perm keys
  exact stage_eq x _ w σ hσ h

end Cert.TwoProducts

end
-- ==== Proof.Reference.lean ====
/- What the reference's result holds after the run: the argument rows times the first matrix, times the second. -/
module

public import proofs.«01_k».proof.Proof.Stage
public import proofs.«01_k».proof.Proof.Gen.ReferenceIdeal.Run
public import Idealize.ShloMosaic.Lib.Quiescent

@[expose] public section

noncomputable section

namespace Cert.TwoProducts

open Idealize.ShloMosaic Idealize.ShloMosaic.TcCoe Idealize.ShloMosaic.ValueIdx Idealize.ShloMosaic.StableHlo Idealize.SL.Sem Cert.ReferenceIdeal

variable (m : (ℓ : Loc nD τ sig) → Buf (Elt Ideal) ℓ) (ρ : Dev nD → PrngReg)

/-- After the first stage the rows are the argument rows times the first matrix. -/
theorem first_stage (V : Valuation τ sig (Elt Ideal)) :
    (Cert.ReferenceIdeal.Value.res_main_v72 V : FVec Ideal S98304x128 .f32)
      = prod (V (Proc.devRef .tc main_arg0) : FVec Ideal S98304x128 .f32) (V (Proc.devRef .tc main_arg2) : FVec Ideal S128x128 .f32) :=
  stage_argsort (V (Proc.devRef .tc main_arg0)) (Cert.ReferenceIdeal.Value.res_main_v48 V) (V (Proc.devRef .tc main_arg2))

/-- The reference runs, its result ends at the argument rows times the first matrix, times the second, and its arguments
    end unchanged. -/
theorem reference_run : θ_run defs (onTc (τ := τ) (main (F := Ideal))) ⟨m, fun _ => 0, ρ⟩ fun r => ∀ c : Dev nD,
      r.2.mem ((c.tc : Thread nD τ).loc main_v83)
        = prod (prod (m ((c.tc : Thread nD τ).loc main_arg0) : FVec Ideal S98304x128 .f32) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans
      ((stage_argsort (Cert.ReferenceIdeal.Value.res_main_v72 (launchContents m c)) (Cert.ReferenceIdeal.Value.res_main_v59 (launchContents m c))
          (launchContents m c (Proc.devRef .tc main_arg3))).trans
        (congrArg (fun x => prod x (launchContents m c (Proc.devRef .tc main_arg3) : FVec Ideal S128x128 .f32)) (first_stage (launchContents m c)))),
      (h c).2⟩)
    (Cert.ReferenceIdeal.Value.run m ρ)

/-- The reference runs, leaves its arguments unchanged and every counter at zero: it declares no semaphore. -/
theorem reference_frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2, sem_eq_zero_of_no_sems rfl r.2⟩) (reference_run m ρ)

end Cert.TwoProducts

end
-- ==== Proof.lean ====
/- The claim, assembled: the frames of the kernel, of the kernel at the reals and of the reference; that the kernel at
   the reals is the kernel; and that kernel and reference hold the same result, the rows times the first matrix, times
   the second. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The whole claim: the three programs run, leave their arguments unchanged and their counters at zero, and the kernel's
    result is the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.TwoProducts.reference_frame m ρ, trivial, by
  intro m g m' g' _ hagree
  refine ⟨fun c => Cert.TwoProducts.result m c, ?_, ?_⟩
  · exact (θ_run Cert.KernelIdeal.defs _ _).mono (fun _ h c => ⟨(h c).1.trans (Cert.TwoProducts.array_eq m c), (h c).2⟩)
      (Cert.KernelIdeal.Value.run_blocks (F := Ideal) m g)
  · refine (θ_run Cert.ReferenceIdeal.defs _ _).mono (fun _ h c => ⟨(h c).1.trans ?_, (h c).2⟩) (Cert.TwoProducts.reference_run m' g')
    obtain ⟨h0, _, h2, h3, _⟩ := hagree c
    rw [h0, h2, h3]⟩

end Cert.Proof

end
